-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x2560 : Shape := ⟨3, ![4, 256, 2560]⟩
abbrev S2560x1920 : Shape := ⟨2, ![2560, 1920]⟩
abbrev S_ : Shape := ⟨0, ![]⟩
abbrev S1 : Shape := ⟨1, ![1]⟩
abbrev S1024x2560 : Shape := ⟨2, ![1024, 2560]⟩
abbrev S1024x7680 : Shape := ⟨2, ![1024, 7680]⟩
abbrev S2560x640 : Shape := ⟨2, ![2560, 640]⟩
abbrev S1024x640 : Shape := ⟨2, ![1024, 640]⟩
abbrev S4x256x7680 : Shape := ⟨3, ![4, 256, 7680]⟩

abbrev nBuf : Space → Nat
  | .hbm => 7
  | .vmem => 5
  | .smem => 1
  | _ => 0

abbrev bufTy : (tb : Table) → Fin (tcTables nBuf tb) → BufTy
  | .hbm, ⟨0, _⟩ => ⟨S4x256x2560, .bf16⟩
  | .hbm, ⟨1, _⟩ => ⟨S2560x1920, .i8⟩
  | .hbm, ⟨2, _⟩ => ⟨S_, .f32⟩
  | .hbm, ⟨3, _⟩ => ⟨S1, .f32⟩
  | .hbm, ⟨4, _⟩ => ⟨S1024x2560, .bf16⟩
  | .hbm, ⟨5, _⟩ => ⟨S1024x7680, .bf16⟩
  | .hbm, ⟨6, _⟩ => ⟨S4x256x7680, .bf16⟩
  | .local _ .vmem, ⟨0, _⟩ => ⟨S1024x2560, .bf16⟩
  | .local _ .vmem, ⟨1, _⟩ => ⟨S2560x640, .i8⟩
  | .local _ .vmem, ⟨2, _⟩ => ⟨S2560x640, .i8⟩
  | .local _ .vmem, ⟨3, _⟩ => ⟨S1024x640, .bf16⟩
  | .local _ .vmem, ⟨4, _⟩ => ⟨S1024x640, .bf16⟩
  | .local _ .smem, ⟨0, _⟩ => ⟨S1, .f32⟩
  | _, _ => ⟨S4x256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let v1 : BitVec 32 := Scalar.addi v0 arg0
  let c0_i32 : BitVec 32 := 0#32
  let c0_i32_0 : BitVec 32 := 0#32
  ![c0_i32.toNat, v1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2560x640 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x256x2560 : Shape := ⟨3, ![4, 256, 2560]⟩
abbrev S2560x1920 : Shape := ⟨2, ![2560, 1920]⟩
abbrev S_ : Shape := ⟨0, ![]⟩
abbrev S4 : Shape := ⟨1, ![4]⟩
abbrev S4x1x1 : Shape := ⟨3, ![4, 1, 1]⟩
abbrev S1x2560x1920 : Shape := ⟨3, ![1, 2560, 1920]⟩
abbrev S4x2560x1920 : Shape := ⟨3, ![4, 2560, 1920]⟩
abbrev S4x256x4x1920 : Shape := ⟨4, ![4, 256, 4, 1920]⟩
abbrev S4x256x7680 : Shape := ⟨3, ![4, 256, 7680]⟩

abbrev nBuf : Space → Nat
  | .hbm => 22
  | .vmem => 0
  | .smem => 0
  | _ => 0

abbrev bufTy : (tb : Table) → Fin (tcTables nBuf tb) → BufTy
  | .hbm, ⟨0, _⟩ => ⟨S4x256x2560, .bf16⟩
  | .hbm, ⟨1, _⟩ => ⟨S2560x1920, .i8⟩
  | .hbm, ⟨2, _⟩ => ⟨S_, .f32⟩
  | .hbm, ⟨3, _⟩ => ⟨S4, .i32⟩
  | .hbm, ⟨4, _⟩ => ⟨S4x1x1, .i32⟩
  | .hbm, ⟨5, _⟩ => ⟨S2560x1920, .i32⟩
  | .hbm, ⟨6, _⟩ => ⟨S1x2560x1920, .i32⟩
  | .hbm, ⟨7, _⟩ => ⟨S4x2560x1920, .i32⟩
  | .hbm, ⟨8, _⟩ => ⟨S4x2560x1920, .i32⟩
  | .hbm, ⟨9, _⟩ => ⟨S4x2560x1920, .i32⟩
  | .hbm, ⟨10, _⟩ => ⟨S_, .i32⟩
  | .hbm, ⟨11, _⟩ => ⟨S4x2560x1920, .i32⟩
  | .hbm, ⟨12, _⟩ => ⟨S4x2560x1920, .i32⟩
  | .hbm, ⟨13, _⟩ => ⟨S4x2560x1920, .bf16⟩
  | .hbm, ⟨14, _⟩ => ⟨S_, .bf16⟩
  | .hbm, ⟨15, _⟩ => ⟨S4x2560x1920, .bf16⟩
  | .hbm, ⟨16, _⟩ => ⟨S4x2560x1920, .bf16⟩
  | .hbm, ⟨17, _⟩ => ⟨S4x256x4x1920, .f32⟩
  | .hbm, ⟨18, _⟩ => ⟨S4x256x7680, .f32⟩
  | .hbm, ⟨19, _⟩ => ⟨S4x256x7680, .f32⟩
  | .hbm, ⟨20, _⟩ => ⟨S4x256x7680, .f32⟩
  | .hbm, ⟨21, _⟩ => ⟨S4x256x7680, .bf16⟩
  | _, _ => ⟨S4x256x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Trit.lean ====
/- THE PACKED WEIGHT, ONE ENTRY AT A TIME. A byte of the packed matrix holds four two-bit fields; field `j` read as a
   number is `0`, `1` or `2` for a ternary weight (a field of `3` is covered too: every byte is), and the weight is the field minus one.
   Here: the field as plain arithmetic on the byte (`field`), the weight (`trit`), and the two ways the programs compute
   it with machine words — the kernel's arithmetic shift by `2 * j` and signed conversion, the reference's logical shift by
   the `j`-th entry of the list `0, 2, 4, 6` and unsigned conversion — both equal to it. -/
module

public import proofs.«01_k».proof.Proof.Gen.KernelIdeal
public import proofs.«01_k».proof.Proof.Gen.ReferenceIdeal
public import Idealize.ShloMosaic.Lib.Pointwise

@[expose] public section

noncomputable section

namespace Cert.Ternary

open Idealize.ShloMosaic

/-- Two-bit field `j` of a byte, as a number: the byte divided by `4 ^ j`, modulo 4. -/
def field (b : BitVec 8) (j : ℕ) : ℕ := b.toNat / 4 ^ j % 4

/-- The weight that field `j` of a byte encodes: the field minus one. -/
def trit (b : BitVec 8) (j : ℕ) : EReal := (((field b j : ℕ) : ℝ) : EReal) - 1

/-- The kernel's word: the byte widened with zeros, shifted right by `2 * j` (arithmetically: the widened byte is not
    negative), its two low bits kept — as a signed integer, the field. Checked at every byte and every field. -/
theorem kernel_word : ∀ (b : BitVec 8) (j : Fin 4),
    (IntOp.andi (IntOp.shrsi ArithUnit.vector (BitVec.setWidth 32 b) (Scalar.muli 2#32 (BitVec.ofNat 32 j.val))) 3#32).toInt
      = (field b j.val : ℤ) := by
  decide +kernel

/-- The reference's word: the byte widened with zeros, shifted right by entry `j` of its list of shifts, its two low bits
    kept — as an unsigned integer, the field. Checked at every byte and every field. -/
theorem reference_word : ∀ (b : BitVec 8) (j : Fin 4),
    (IntOp.andi (IntOp.shrui ArithUnit.host (BitVec.setWidth 32 b)
      (Cert.ReferenceIdeal.lit0 (Cert.ReferenceIdeal.S4.rowMajor (ix1 j)))) 3#32).toNat = field b j.val := by
  decide +kernel

/-- The kernel's weight, converted to a number and decremented, is `trit`. -/
theorem kernel_trit (b : BitVec 8) (j : Fin 4) :
    (FloatOps.sitofp FTy.f32 (IntOp.andi (IntOp.shrsi ArithUnit.vector (BitVec.setWidth 32 b)
      (Scalar.muli 2#32 (BitVec.ofNat 32 j.val))) 3#32) : Ideal .f32) - (1 : EReal) = trit b j.val := by
  show ((((IntOp.andi (IntOp.shrsi ArithUnit.vector (BitVec.setWidth 32 b)
      (Scalar.muli 2#32 (BitVec.ofNat 32 j.val))) 3#32).toInt : ℝ)) : EReal) - 1 = trit b j.val
  rw [kernel_word, trit, Int.cast_natCast]

/-- The reference's weight, converted to a number and decremented, is `trit`. -/
theorem reference_trit (b : BitVec 8) (j : Fin 4) :
    (FloatOps.uitofp FTy.bf16 (IntOp.andi (IntOp.shrui ArithUnit.host (BitVec.setWidth 32 b)
      (Cert.ReferenceIdeal.lit0 (Cert.ReferenceIdeal.S4.rowMajor (ix1 j)))) 3#32) : Ideal .bf16) - (1 : EReal) = trit b j.val := by
  show ((((IntOp.andi (IntOp.shrui ArithUnit.host (BitVec.setWidth 32 b)
      (Cert.ReferenceIdeal.lit0 (Cert.ReferenceIdeal.S4.rowMajor (ix1 j)))) 3#32).toNat : ℝ)) : EReal) - 1 = trit b j.val
  rw [reference_word, trit]

end Cert.Ternary

end
-- ==== Proof.KernelBlock.lean ====
/- WHAT THE KERNEL LEAVES IN ITS FLAT RESULT ARRAY. A grid point `(c, j)` of the kernel multiplies all 1024 rows of
   activations by field `j` of 640 columns of the packed weights, scales, and writes the block of columns that starts at
   `(3 * j + c) * 640`. Here: that block at an index (`payload_apply`), and the whole array after the last point as one
   function of the arrays the kernel was launched on (`flat_eq`). -/
module

public import proofs.«01_k».proof.Proof.Gen.KernelIdeal.Frame
public import proofs.«01_k».proof.Proof.Trit
public import Idealize.ShloMosaic.Lib.Pointwise
public import Idealize.ShloMosaic.Lib.Pipeline.ValueKit.Geometry
public import Idealize.ShloMosaic.Lib.Pipeline.ValueKit.Acc

@[expose] public section

noncomputable section

namespace Cert.KernelIdeal.RefValue

open Cert.KernelIdeal Cert.KernelIdeal.Gen Cert.Ternary Idealize.ShloMosaic Idealize.ShloMosaic.TcCoe Idealize.SL.Sem
open scoped BigOperators

/-- The scaled product with the ternary weights over flat rows: entry `(r, n)` is row `r` of the activations times field
    `n / 1920` of packed column `n % 1920`, times the scale. -/
def flat (x : Vec Ideal S1024x2560 .bf16) (w : Vec Ideal S2560x1920 .i8) (s : Vec Ideal S1 .f32) :
    Vec Ideal S1024x7680 .bf16 := fun i =>
  ((∑ k : Fin 2560, (x (ix2 (i 0) k) : EReal) * trit (w (ix2 k ⟨(i 1).val % 1920, Nat.mod_lt _ (by decide)⟩)) ((i 1).val / 1920))
    * s (ix1 0) : EReal)

/-- One block of the kernel at an index: a row of activations times field `j` (the second grid coordinate) of a packed
    column, times the scale. -/
theorem payload_apply (i : grid0.Coords) (w : Vec Ideal S2560x640 .i8) (x : Vec Ideal S1024x2560 .bf16) (s : Elt Ideal .f32)
    (r : Fin 1024) (n : Fin 640) :
    k0_pay1 i w x s (ix2 r n)
      = ((∑ k : Fin 2560, (x (ix2 r k) : EReal) * trit (w (ix2 k n)) (i 1).val) * s : EReal) := by
  pointwise [k0_pay1]
  exact congrArg (· * (s : EReal)) (Finset.sum_congr rfl fun k _ => congrArg (_ * ·) (kernel_trit (w (ix2 k n)) (i 1)))

variable (m : (ℓ : Loc nD τ sig) → Buf (Elt Ideal) ℓ)

/-- At every grid point the activations' window is the whole array, -/
theorem idx1 : ∀ t : Fin cfg0.N, win0_1.index t = ![0, 0] := (by decide +kernel : ∀ t : Fin grid0.N, _)
/-- the weights' window is column block `c`, -/
theorem idx2 : ∀ t : Fin cfg0.N, win0_2.index t = ![0, (grid0.coords t 0).val] := (by decide +kernel : ∀ t : Fin grid0.N, _)
/-- and the result's window is column block `3 * j + c`. -/
theorem idx3 : ∀ t : Fin cfg0.N, win0_3.index t = ![0, (grid0.coords t 1).val * 3 + (grid0.coords t 0).val] :=
  (by decide +kernel : ∀ t : Fin grid0.N, _)

/-- The staged scale, as the kernel's scalar load reads it: the one entry of its array. -/
theorem scale_read (c : Dev nD) (t : Fin cfg0.N) (h) :
    View.ld (iblk m c 0 t) (Rect.unit ![0] ![1] inb_S1_S1_0) (Shape.Idx.first h) = V m c main_v0 (ix1 0) := by
  show iblk m c 0 t _ = _
  blk_simp [iblk]
  congr 1
  funext a
  fin_cases a
  exact Subsingleton.elim (α := Fin 1) _ _

/-- The staged activations are the whole array. -/
theorem rows_read (c : Dev nD) (t : Fin cfg0.N) (r : Fin 1024) (k : Fin 2560) :
    iblk m c 1 t (ix2 r k) = V m c main_v1 (ix2 r k) := by
  blk_simp [iblk]
  congr 1
  blk_ext [idx1 t]

/-- The staged weights are column block `c` of the packed array. -/
theorem packed_read (c : Dev nD) (t : Fin cfg0.N) (k : Fin 2560) (n : Fin 640) (n' : Fin 1920)
    (hn : n'.val = (grid0.coords t 0).val * 640 + n.val) :
    iblk m c 2 t (ix2 k n) = V m c main_arg1 (ix2 k n') := by
  blk_simp [iblk]
  congr 1
  blk_ext [idx2 t]

/-- The flat result array after the last grid point, over the arrays as the kernel's launch found them. -/
theorem flat_eq (c : Dev nD) :
    (dats m 0 c).arrAt 3 cfg0.N = flat (V m c main_v1) (V m c main_arg1) (V m c main_v0) := by
  refine (dats m 0 c).arrAt_eq_of_covers 3 _ (by decide +kernel) fun t hf y => ?_
  blk_simp
  rw [after0_3]; unfold outsAt0; frame_out
  obtain ⟨r, n, rfl⟩ : ∃ (r : Fin 1024) (n : Fin 640), y = ix2 r n := ⟨y 0, y 1, by funext a; fin_cases a <;> rfl⟩
  refine (payload_apply _ _ _ _ _ _).trans ?_
  rw [scale_read]
  have h0 : (grid0.coords t 0).val < 3 := (grid0.coords t 0).isLt
  have h1 : (grid0.coords t 1).val < 4 := (grid0.coords t 1).isLt
  have hn : n.val < 640 := n.isLt
  obtain ⟨i, hi⟩ : ∃ i, i = ((View.whole main_v2).slice (win0_3.rect t)).emb (ix2 r n) := ⟨_, rfl⟩
  have e0 : (i 0).val = r.val := by rw [hi]; blk_simp [idx3 t]
  have e1 : (i 1).val = ((grid0.coords t 1).val * 3 + (grid0.coords t 0).val) * 640 + n.val := by
    rw [hi]; blk_simp [idx3 t]
  rw [← hi]
  unfold flat
  refine congrArg (· * (_ : EReal)) (Finset.sum_congr rfl fun k _ => ?_)
  have e0' : (i 0 : Fin 1024) = r := Fin.ext e0
  rw [rows_read, packed_read m c t k n ⟨(i 1).val % 1920, Nat.mod_lt _ (by decide)⟩ (by simp only []; omega),
    show (i 1).val / 1920 = (grid0.coords t 1).val by omega, e0']

end Cert.KernelIdeal.RefValue

end
-- ==== Proof.KernelRun.lean ====
/- THE KERNEL'S RESULT. The program reshapes the activations to 1024 flat rows and the scale to one entry, launches the
   kernel, and reshapes its flat result back to four batches of 256 rows. Here: what those host lines leave (`flat_arg0`,
   `flat_arg2`, `result_eq`), the result at an index over the program's own arguments (`result_apply`), and the program's
   run with its result named and its arguments unchanged (`run`). -/
module

public import proofs.«01_k».proof.Proof.KernelBlock
public import Idealize.ShloMosaic.Lib.StableHlo.Run

@[expose] public section

noncomputable section

namespace Cert.KernelIdeal.RefValue

open Cert.KernelIdeal Cert.KernelIdeal.Gen Cert.Ternary Idealize.ShloMosaic Idealize.ShloMosaic.TcCoe Idealize.SL.Sem
open scoped BigOperators

variable (m : (ℓ : Loc nD τ sig) → Buf (Elt Ideal) ℓ) (ρ : Dev nD → PrngReg)

/-- The launch finds the flat activations: the argument reshaped. -/
theorem flat_arg0 (c : Dev nD) :
    V m c main_v1 = shapeCast S1024x2560 (m ((c : Thread nD τ).loc main_arg0)) shapeCasts_S4x256x2560_S1024x2560 := by
  show StableHlo.after (List.flatten [hostOps0]) _ _ = _
  simp only [hostOps0, List.flatten_cons, List.flatten_nil, List.append_nil, List.cons_append, List.nil_append]
  after_results <;> rfl

/-- The launch finds the one-entry scale: the scalar argument reshaped. -/
theorem flat_arg2 (c : Dev nD) :
    V m c main_v0 = shapeCast S1 (m ((c : Thread nD τ).loc main_arg2)) shapeCasts_S_S1 := by
  show StableHlo.after (List.flatten [hostOps0]) _ _ = _
  simp only [hostOps0, List.flatten_cons, List.flatten_nil, List.append_nil, List.cons_append, List.nil_append]
  after_results <;> rfl

/-- The program's result over its arguments: the flat result reshaped to batches. -/
def result (x : Vec Ideal S4x256x2560 .bf16) (w : Vec Ideal S2560x1920 .i8) (s : Vec Ideal S_ .f32) : Vec Ideal S4x256x7680 .bf16 :=
  shapeCast S4x256x7680 (flat (shapeCast S1024x2560 x shapeCasts_S4x256x2560_S1024x2560) w (shapeCast S1 s shapeCasts_S_S1))
    shapeCasts_S1024x7680_S4x256x7680

/-- The host line after the kernel leaves the flat result reshaped. -/
theorem result_eq (c : Dev nD) :
    Pipeline.afterTail₀ cfgs (dats m) 0 (V0 m) [hostOps1] c main_v3
      = result (m ((c : Thread nD τ).loc main_arg0)) (m ((c : Thread nD τ).loc main_arg1)) (m ((c : Thread nD τ).loc main_arg2)) := by
  have h : Pipeline.afterTail₀ cfgs (dats m) 0 (V0 m) [hostOps1] c main_v3
      = shapeCast S4x256x7680 ((dats m 0 c).arrAt 3 cfg0.N) shapeCasts_S1024x7680_S4x256x7680 := by
    unfold Pipeline.afterTail₀
    have e := Pipeline.withArrays_arr (cfgs 0).spec launch0.win.arr_inj c (V0 m c) (fun w => (dats m 0 c).arrAt w (cfgs 0).N) 3
    rw [← show _ = (dats m 0 c).arrAt 3 cfg0.N from e]
    simp only [hostOps1, List.flatten_cons, List.flatten_nil, List.append_nil, List.cons_append, List.nil_append]
    after_results <;> rfl
  rw [h, flat_eq, flat_arg0, flat_arg2, V_main_arg1]
  rfl

/-- The program's result at batch `b`, row `r`, column `n`. -/
theorem result_apply (x : Vec Ideal S4x256x2560 .bf16) (w : Vec Ideal S2560x1920 .i8) (s : Vec Ideal S_ .f32)
    (b : Fin 4) (r : Fin 256) (n : Fin 7680) :
    result x w s (ix3 b r n)
      = ((∑ k : Fin 2560, (x (ix3 b r k) : EReal) * trit (w (ix2 k ⟨n.val % 1920, Nat.mod_lt _ (by decide)⟩)) (n.val / 1920))
          * s ix0 : EReal) := by
  pointwise [result, flat]

/-- The program's run: its result, and its arguments as launched. -/
theorem run : θ_run defs (onTc (τ := τ) (main (F := Ideal))) ⟨m, fun _ => 0, ρ⟩ fun r => ∀ c : Dev nD,
      r.2.mem ((c.tc : Thread nD τ).loc main_v3)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h.1 c).2 main_v3 (Pipeline.mem_restRefs_of main_v3 (by decide) (by decide))).trans (result_eq m c), h.2 c⟩)
    (θ_run_and (run_main m ρ) (unchanged m ρ))

end Cert.KernelIdeal.RefValue

end
-- ==== Proof.ReferenceValue.lean ====
/- THE REFERENCE'S RESULT AT AN INDEX. The reference takes the four fields of the packed weights as four matrices, contracts
   the activations with all of them, lays the four products side by side and scales. Here: its composed term, which the
   generated run names, at batch `b`, row `r`, column `n`. -/
module

public import proofs.«01_k».proof.Proof.Gen.ReferenceIdeal.Run
public import proofs.«01_k».proof.Proof.Trit
public import Idealize.ShloMosaic.Lib.Pointwise

@[expose] public section

noncomputable section

namespace Cert.ReferenceIdeal.RefValue

open Cert.ReferenceIdeal Cert.ReferenceIdeal.Gen Cert.Ternary Idealize.ShloMosaic Idealize.ShloMosaic.TcCoe Idealize.SL.Sem
open scoped BigOperators

/-- The four ternary matrices, one per field. -/
def trits (w : Vec Ideal S2560x1920 .i8) : FVec Ideal S4x2560x1920 .bf16 :=
  subf (uitofp .bf16 (andi (Host.shrui (broadcastInDim S4x2560x1920 ![0, 1, 2] bcast_S1x2560x1920_S4x2560x1920_0_1_2 (broadcastInDim S1x2560x1920 ![1, 2] bcast_S2560x1920_S1x2560x1920_1_2 (extui 32 w natLt_8_32))) (broadcastInDim S4x2560x1920 ![0, 1, 2] bcast_S4x1x1_S4x2560x1920_0_1_2 (broadcastInDim S4x1x1 ![0] bcast_S4_S4x1x1_0 ((fun i => lit0 (S4.rowMajor i)))))) (broadcastInDim S4x2560x1920 ![] bcast_S_S4x2560x1920 (constantI S_ 32 3#32)))) (broadcastInDim S4x2560x1920 ![] bcast_S_S4x2560x1920 (constant S_ .bf16 0x3F80#16))

/-- The reference's result over its arguments. -/
def result (x : Vec Ideal S4x256x2560 .bf16) (w : Vec Ideal S2560x1920 .i8) (s : Vec Ideal S_ .f32) : Vec Ideal S4x256x7680 .bf16 :=
  truncf .bf16 (mulf (shapeCast S4x256x7680 (Host.dotGeneral dot_S4x256x2560_S4x2560x1920_S4x256x4x1920_2_1_01_02_n_n none
    (φ₁ := .bf16) (φ₂ := .bf16) x (trits w))
    shapeCasts_S4x256x4x1920_S4x256x7680) (broadcastInDim S4x256x7680 ![] bcast_S_S4x256x7680 s)) bitsLt_bf16_f32

/-- The reference's result at batch `b`, row `r`, column `n`. -/
theorem result_apply (x : Vec Ideal S4x256x2560 .bf16) (w : Vec Ideal S2560x1920 .i8) (s : Vec Ideal S_ .f32)
    (b : Fin 4) (r : Fin 256) (n : Fin 7680) :
    result x w s (ix3 b r n)
      = ((∑ k : Fin 2560, (x (ix3 b r k) : EReal) * trit (w (ix2 k ⟨n.val % 1920, Nat.mod_lt _ (by decide)⟩)) (n.val / 1920))
          * s ix0 : EReal) := by
  pointwise [result, trits]
  exact congrArg (· * (s ix0 : EReal)) (Finset.sum_congr rfl fun k _ => congrArg (_ * ·) (reference_trit _ ⟨n.val / 1920, by omega⟩))

variable (m : (ℓ : Loc nD τ sig) → Buf (Elt Ideal) ℓ) (ρ : Dev nD → PrngReg)

/-- The reference's run: its result, and its arguments as launched. -/
theorem run : θ_run defs (onTc (τ := τ) (main (F := Ideal))) ⟨m, fun _ => 0, ρ⟩ fun r => ∀ c : Dev nD,
      r.2.mem ((c.tc : Thread nD τ).loc main_v15)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.ReferenceIdeal.RefValue

end
-- ==== Proof.Equation.lean ====
/- THE TWO RESULTS ARE EQUAL. At every batch, row and column both are the same scaled sum of products with the ternary
   weights (`result_apply`, once per program), for every activation, packed byte and scale. -/
module

public import proofs.«01_k».proof.Proof.KernelRun
public import proofs.«01_k».proof.Proof.ReferenceValue

@[expose] public section

noncomputable section

namespace Cert.Ternary

open Idealize.ShloMosaic

/-- On the same arguments the kernel's result is the reference's. -/
theorem result_eq (x : Vec Ideal Cert.KernelIdeal.S4x256x2560 .bf16) (w : Vec Ideal Cert.KernelIdeal.S2560x1920 .i8)
    (s : Vec Ideal Cert.KernelIdeal.S_ .f32) :
    Cert.KernelIdeal.RefValue.result x w s = Cert.ReferenceIdeal.RefValue.result x w s := by
  funext i
  obtain ⟨b, r, n, rfl⟩ : ∃ (b : Fin 4) (r : Fin 256) (n : Fin 7680), i = ix3 b r n :=
    ⟨i 0, i 1, i 2, by funext a; fin_cases a <;> rfl⟩
  exact (Cert.KernelIdeal.RefValue.result_apply x w s b r n).trans (Cert.ReferenceIdeal.RefValue.result_apply x w s b r n).symm

end Cert.Ternary

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.KernelRun
public import proofs.«01_k».proof.Proof.ReferenceValue
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference terminates, keeps its arguments and ends with every counter at zero: it has none. -/
theorem quiescent_reference : @Cert.quiescent_ReferenceIdeal Cert.ReferenceIdeal.Gen.facts := fun m ρ _ =>
  (θ_run _ _ _).mono (fun r h => ⟨fun c => (h c).2, sem_eq_zero_of_no_sems (by decide) r.2⟩) (Cert.ReferenceIdeal.RefValue.run m ρ)

/-- Both programs end with the same result on the same arguments. -/
theorem algebraic : @Cert.algebraic_KernelIdeal_ReferenceIdeal Cert.KernelIdeal.Gen.facts Cert.ReferenceIdeal.Gen.facts :=
  fun m ρ m' ρ' _ hargs =>
    ⟨fun c => Cert.KernelIdeal.RefValue.result (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      Cert.KernelIdeal.RefValue.run m ρ,
      (θ_run _ _ _).mono (fun r h c => ⟨(h c).1.trans (by
          rw [(hargs c).1, (hargs c).2.1, (hargs c).2.2]
          exact (Cert.Ternary.result_eq _ _ _).symm), (h c).2⟩)
        (Cert.ReferenceIdeal.RefValue.run m' ρ')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial, algebraic⟩

end Cert.Proof

end
